-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_thermometer_table_finite_keys [hPre_thermometer_table_finite_keys : Cert.Pre_thermometer_table_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_thermometer_table_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_thermometer_table_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_thermometer_table_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_thermometer_table_finite_keys [hPre_thermometer_table_finite_keys : Cert.Pre_thermometer_table_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_thermometer_table_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_thermometer_table_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_thermometer_table_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_thermometer_table_finite_keys [hKernelIdeal : Cert.KernelIdeal.Facts] [hPre_thermometer_table_finite_keys : Cert.Pre_thermometer_table_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_thermometer_table_finite_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_thermometer_table_finite_keys [hReferenceIdeal : Cert.ReferenceIdeal.Facts] [hPre_thermometer_table_finite_keys : Cert.Pre_thermometer_table_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_thermometer_table_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.sign_bit.MaskStatement Cert.KernelIdeal.S130x4096 .f32
  ∧ IdealRules.sign_bit.MaskStatement Cert.KernelIdeal.S128x4096 .f32

def algebraic_KernelIdeal_ReferenceIdeal_pre_thermometer_table_finite_keys [hKernelIdeal : Cert.KernelIdeal.Facts] [hReferenceIdeal : Cert.ReferenceIdeal.Facts] [hPre_thermometer_table_finite_keys : Cert.Pre_thermometer_table_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_thermometer_table_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_thermometer_table_finite_keys : Cert.Pre_thermometer_table_finite_keys.Facts),
    quiescent_Kernel (hKernel := hKernel)
    ∧ quiescent_KernelIdeal (hKernelIdeal := hKernelIdeal)
    ∧ quiescent_KernelIdeal_pre_thermometer_table_finite_keys (hKernelIdeal := hKernelIdeal) (hPre_thermometer_table_finite_keys := hPre_thermometer_table_finite_keys)
    ∧ quiescent_ReferenceIdeal (hReferenceIdeal := hReferenceIdeal)
    ∧ quiescent_ReferenceIdeal_pre_thermometer_table_finite_keys (hReferenceIdeal := hReferenceIdeal) (hPre_thermometer_table_finite_keys := hPre_thermometer_table_finite_keys)
    ∧ preserves_Kernel_KernelIdeal
    ∧ algebraic_KernelIdeal_ReferenceIdeal_pre_thermometer_table_finite_keys (hKernelIdeal := hKernelIdeal) (hReferenceIdeal := hReferenceIdeal) (hPre_thermometer_table_finite_keys := hPre_thermometer_table_finite_keys)
-- ==== Pre_thermometer_table_finite_keys.lean ====
abbrev S2048x4 : Shape := ⟨2, ![2048, 4]⟩
abbrev S620 : Shape := ⟨1, ![620]⟩
abbrev S4x4096 : Shape := ⟨2, ![4, 4096]⟩
abbrev S1024x4096 : Shape := ⟨2, ![1024, 4096]⟩
abbrev S20x4096 : Shape := ⟨2, ![20, 4096]⟩
abbrev S6x4096x91 : Shape := ⟨3, ![6, 4096, 91]⟩
abbrev S6x4096 : Shape := ⟨2, ![6, 4096]⟩
abbrev S1x4096 : Shape := ⟨2, ![1, 4096]⟩
abbrev S1023x4096 : Shape := ⟨2, ![1023, 4096]⟩
abbrev S_ : Shape := ⟨0, ![]⟩

class Facts : Prop where
  slices_S1024x4096_S1x4096_0_0 : S1024x4096.Slices ![0, 0] S1x4096
  slices_S1024x4096_S1023x4096_0_0 : S1024x4096.Slices ![0, 0] S1023x4096
  slices_S1024x4096_S1023x4096_1_0 : S1024x4096.Slices ![1, 0] S1023x4096
  bcast_S_S1024x4096 : S_.BroadcastsInDim S1024x4096 (![] : Fin 0 → Fin S1024x4096.rank)
  bcast_S1x4096_S1023x4096_0_1 : S1x4096.BroadcastsInDim S1023x4096 (![0, 1] : Fin 2 → Fin S1023x4096.rank)
  bcast_S_S4x4096 : S_.BroadcastsInDim S4x4096 (![] : Fin 0 → Fin S4x4096.rank)

variable [Facts]

def fn {F : FTy → Type} [FloatOps F] (main_arg0 : FVec F S2048x4 .f32) (main_arg1 : FVec F S620 .f32) (main_arg2 : FVec F S4x4096 .f32) (main_arg3 : FVec F S1024x4096 .f32) (main_arg4 : FVec F S20x4096 .f32) (main_arg5 : FVec F S20x4096 .f32) (main_arg6 : FVec F S6x4096x91 .f32) (main_arg7 : FVec F S6x4096 .f32) : IVec S1024x4096 1 × IVec S1023x4096 1 × IVec S4x4096 1 :=
  let main_v0 : FVec F S1x4096 .f32 := (extractStridedSlice S1x4096 ![0, 0] · slices_S1024x4096_S1x4096_0_0) main_arg3
  let main_v1 : FVec F S1023x4096 .f32 := (extractStridedSlice S1023x4096 ![0, 0] · slices_S1024x4096_S1023x4096_0_0) main_arg3
  let main_v2 : FVec F S1023x4096 .f32 := (extractStridedSlice S1023x4096 ![1, 0] · slices_S1024x4096_S1023x4096_1_0) main_arg3
  let main_cst : FVec F S_ .f32 := constant S_ .f32 0x3F800000#32
  let main_v3 : FVec F S1024x4096 .f32 := broadcastInDim S1024x4096 ![] bcast_S_S1024x4096 main_cst
  let main_v4 : IVec S1024x4096 1 := cmpf .oeq main_arg3 main_v3
  let main_cst_0 : FVec F S_ .f32 := constant S_ .f32 0xBF800000#32
  let main_v5 : FVec F S1024x4096 .f32 := broadcastInDim S1024x4096 ![] bcast_S_S1024x4096 main_cst_0
  let main_v6 : IVec S1024x4096 1 := cmpf .oeq main_arg3 main_v5
  let main_v7 : IVec S1024x4096 1 := ori main_v4 main_v6
  let main_v8 : IVec S1023x4096 1 := cmpf .oeq main_v2 main_v1
  let main_v9 : FVec F S1023x4096 .f32 := broadcastInDim S1023x4096 ![0, 1] bcast_S1x4096_S1023x4096_0_1 main_v0
  let main_v10 : IVec S1023x4096 1 := cmpf .une main_v2 main_v9
  let main_v11 : IVec S1023x4096 1 := ori main_v8 main_v10
  let main_v12 : FVec F S4x4096 .f32 := Host.absf main_arg2
  let main_cst_1 : FVec F S_ .f32 := constant S_ .f32 0x7F800000#32
  let main_v13 : FVec F S4x4096 .f32 := broadcastInDim S4x4096 ![] bcast_S_S4x4096 main_cst_1
  let main_v14 : IVec S4x4096 1 := cmpf .olt main_v12 main_v13
  (main_v7, main_v11, main_v14)
-- ==== Kernel.lean ====
abbrev S2048x4 : Shape := ⟨2, ![2048, 4]⟩
abbrev S620 : Shape := ⟨1, ![620]⟩
abbrev S4x4096 : Shape := ⟨2, ![4, 4096]⟩
abbrev S1024x4096 : Shape := ⟨2, ![1024, 4096]⟩
abbrev S20x4096 : Shape := ⟨2, ![20, 4096]⟩
abbrev S6x4096x91 : Shape := ⟨3, ![6, 4096, 91]⟩
abbrev S6x4096 : Shape := ⟨2, ![6, 4096]⟩
abbrev S20 : Shape := ⟨1, ![20]⟩
abbrev S_ : Shape := ⟨0, ![]⟩
abbrev S20x1 : Shape := ⟨2, ![20, 1]⟩
abbrev S546 : Shape := ⟨1, ![546]⟩
abbrev S6x91 : Shape := ⟨2, ![6, 91]⟩
abbrev S1x4096 : Shape := ⟨2, ![1, 4096]⟩
abbrev S4096 : Shape := ⟨1, ![4096]⟩
abbrev S130x4 : Shape := ⟨2, ![130, 4]⟩
abbrev S130x1 : Shape := ⟨2, ![130, 1]⟩
abbrev S130x4096 : Shape := ⟨2, ![130, 4096]⟩
abbrev S128x4096 : Shape := ⟨2, ![128, 4096]⟩
abbrev S128x4 : Shape := ⟨2, ![128, 4]⟩
abbrev S128x1 : Shape := ⟨2, ![128, 1]⟩
abbrev S126x4096 : Shape := ⟨2, ![126, 4096]⟩

abbrev nBuf : Space → Nat
  | .hbm => 25
  | .vmem => 9
  | .smem => 0
  | _ => 0

abbrev bufTy : (tb : Table) → Fin (tcTables nBuf tb) → BufTy
  | .hbm, ⟨0, _⟩ => ⟨S2048x4, .f32⟩
  | .hbm, ⟨1, _⟩ => ⟨S620, .f32⟩
  | .hbm, ⟨2, _⟩ => ⟨S4x4096, .f32⟩
  | .hbm, ⟨3, _⟩ => ⟨S1024x4096, .f32⟩
  | .hbm, ⟨4, _⟩ => ⟨S20x4096, .f32⟩
  | .hbm, ⟨5, _⟩ => ⟨S20x4096, .f32⟩
  | .hbm, ⟨6, _⟩ => ⟨S6x4096x91, .f32⟩
  | .hbm, ⟨7, _⟩ => ⟨S6x4096, .f32⟩
  | .hbm, ⟨8, _⟩ => ⟨S20, .i32⟩
  | .hbm, ⟨9, _⟩ => ⟨S_, .i32⟩
  | .hbm, ⟨10, _⟩ => ⟨S20, .i32⟩
  | .hbm, ⟨11, _⟩ => ⟨S20, .i1⟩
  | .hbm, ⟨12, _⟩ => ⟨S_, .i32⟩
  | .hbm, ⟨13, _⟩ => ⟨S20, .i32⟩
  | .hbm, ⟨14, _⟩ => ⟨S20, .i32⟩
  | .hbm, ⟨15, _⟩ => ⟨S20, .i32⟩
  | .hbm, ⟨16, _⟩ => ⟨S20x1, .i32⟩
  | .hbm, ⟨17, _⟩ => ⟨S20, .f32⟩
  | .hbm, ⟨18, _⟩ => ⟨S20x1, .f32⟩
  | .hbm, ⟨19, _⟩ => ⟨S20x4096, .f32⟩
  | .hbm, ⟨20, _⟩ => ⟨S546, .f32⟩
  | .hbm, ⟨21, _⟩ => ⟨S6x91, .f32⟩
  | .hbm, ⟨22, _⟩ => ⟨S6x4096, .f32⟩
  | .hbm, ⟨23, _⟩ => ⟨S1x4096, .f32⟩
  | .hbm, ⟨24, _⟩ => ⟨S4096, .f32⟩
  | .local _ .vmem, ⟨0, _⟩ => ⟨S2048x4, .f32⟩
  | .local _ .vmem, ⟨1, _⟩ => ⟨S20x4096, .f32⟩
  | .local _ .vmem, ⟨2, _⟩ => ⟨S4x4096, .f32⟩
  | .local _ .vmem, ⟨3, _⟩ => ⟨S1024x4096, .f32⟩
  | .local _ .vmem, ⟨4, _⟩ => ⟨S20x4096, .f32⟩
  | .local _ .vmem, ⟨5, _⟩ => ⟨S20x4096, .f32⟩
  | .local _ .vmem, ⟨6, _⟩ => ⟨S6x4096, .f32⟩
  | .local _ .vmem, ⟨7, _⟩ => ⟨S6x4096, .f32⟩
  | .local _ .vmem, ⟨8, _⟩ => ⟨S1x4096, .f32⟩
  | _, _ => ⟨S2048x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v0 : Ref sig .tc := ⟨.hbm, 10, rfl⟩
abbrev main_v1 : Ref sig .tc := ⟨.hbm, 11, rfl⟩
abbrev main_c_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [BitOps F]

abbrev grid0 : Pipeline.Grid := .none

abbrev stage0_0 : Fin 1 → Memref sig .tc .vmem S2048x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F]
-- ==== ReferenceIdeal.lean ====
abbrev S2048x4 : Shape := ⟨2, ![2048, 4]⟩
abbrev S620 : Shape := ⟨1, ![620]⟩
abbrev S4x4096 : Shape := ⟨2, ![4, 4096]⟩
abbrev S1024x4096 : Shape := ⟨2, ![1024, 4096]⟩
abbrev S20x4096 : Shape := ⟨2, ![20, 4096]⟩
abbrev S6x4096x91 : Shape := ⟨3, ![6, 4096, 91]⟩
abbrev S6x4096 : Shape := ⟨2, ![6, 4096]⟩
abbrev S20 : Shape := ⟨1, ![20]⟩
abbrev S_ : Shape := ⟨0, ![]⟩
abbrev S2048x4x1 : Shape := ⟨3, ![2048, 4, 1]⟩
abbrev S1 : Shape := ⟨1, ![1]⟩
abbrev S1x1x1 : Shape := ⟨3, ![1, 1, 1]⟩
abbrev S2048x4x4096 : Shape := ⟨3, ![2048, 4, 4096]⟩
abbrev S1x4x4096 : Shape := ⟨3, ![1, 4, 4096]⟩
abbrev S2048x1x4096 : Shape := ⟨3, ![2048, 1, 4096]⟩
abbrev S2048x4096 : Shape := ⟨2, ![2048, 4096]⟩
abbrev S2046x4096 : Shape := ⟨2, ![2046, 4096]⟩
abbrev S2046x2 : Shape := ⟨2, ![2046, 2]⟩
abbrev S2046x4094 : Shape := ⟨2, ![2046, 4094]⟩
abbrev S2046x1 : Shape := ⟨2, ![2046, 1]⟩
abbrev S2046x4095 : Shape := ⟨2, ![2046, 4095]⟩
abbrev S2046x0 : Shape := ⟨2, ![2046, 0]⟩
abbrev S4096 : Shape := ⟨1, ![4096]⟩
abbrev S20x1 : Shape := ⟨2, ![20, 1]⟩
abbrev S546 : Shape := ⟨1, ![546]⟩
abbrev S6x91 : Shape := ⟨2, ![6, 91]⟩
abbrev S1x4096 : Shape := ⟨2, ![1, 4096]⟩

abbrev nBuf : Space → Nat
  | .hbm => 187
  | .vmem => 0
  | .smem => 0
  | _ => 0

abbrev hbmTy0_0 (i : Nat) : BufTy := match i % 128 with
  | 0 => ⟨S2048x4, .f32⟩
  | 1 => ⟨S620, .f32⟩
  | 2 => ⟨S4x4096, .f32⟩
  | 3 => ⟨S1024x4096, .f32⟩
  | 4 => ⟨S20x4096, .f32⟩
  | 5 => ⟨S20x4096, .f32⟩
  | 6 => ⟨S6x4096x91, .f32⟩
  | 7 => ⟨S6x4096, .f32⟩
  | 8 => ⟨S20, .i32⟩
  | 9 => ⟨S_, .f32⟩
  | 10 => ⟨S2048x4, .f32⟩
  | 11 => ⟨S2048x4, .f32⟩
  | 12 => ⟨S2048x4, .f32⟩
  | 13 => ⟨S2048x4, .i32⟩
  | 14 => ⟨S_, .i32⟩
  | 15 => ⟨S_, .i32⟩
  | 16 => ⟨S_, .i32⟩
  | 17 => ⟨S2048x4, .i32⟩
  | 18 => ⟨S2048x4, .i32⟩
  | 19 => ⟨S_, .i32⟩
  | 20 => ⟨S2048x4, .i32⟩
  | 21 => ⟨S2048x4, .i32⟩
  | 22 => ⟨S_, .i32⟩
  | 23 => ⟨S2048x4, .i32⟩
  | 24 => ⟨S2048x4, .i1⟩
  | 25 => ⟨S_, .i32⟩
  | 26 => ⟨S2048x4, .i32⟩
  | 27 => ⟨S2048x4, .i32⟩
  | 28 => ⟨S2048x4, .i32⟩
  | 29 => ⟨S2048x4x1, .i32⟩
  | 30 => ⟨S1, .i32⟩
  | 31 => ⟨S_, .i32⟩
  | 32 => ⟨S2048x4x1, .i32⟩
  | 33 => ⟨S2048x4x1, .i1⟩
  | 34 => ⟨S1x1x1, .i32⟩
  | 35 => ⟨S2048x4x1, .i32⟩
  | 36 => ⟨S2048x4x1, .i1⟩
  | 37 => ⟨S2048x4x1, .i1⟩
  | 38 => ⟨S_, .i1⟩
  | 39 => ⟨S2048x4, .i1⟩
  | 40 => ⟨S2048x4x4096, .f32⟩
  | 41 => ⟨S2048x4x4096, .i1⟩
  | 42 => ⟨S_, .f32⟩
  | 43 => ⟨S2048x4x4096, .f32⟩
  | 44 => ⟨S2048x4x4096, .f32⟩
  | 45 => ⟨S1x4x4096, .f32⟩
  | 46 => ⟨S2048x4x4096, .f32⟩
  | 47 => ⟨S2048x4x4096, .f32⟩
  | 48 => ⟨S2048x1x4096, .f32⟩
  | 49 => ⟨S2048x4096, .f32⟩
  | 50 => ⟨S2048x1x4096, .f32⟩
  | 51 => ⟨S2048x4096, .f32⟩
  | 52 => ⟨S2048x4096, .f32⟩
  | 53 => ⟨S2048x1x4096, .f32⟩
  | 54 => ⟨S2048x4096, .f32⟩
  | 55 => ⟨S2048x4096, .f32⟩
  | 56 => ⟨S2048x1x4096, .f32⟩
  | 57 => ⟨S2048x4096, .f32⟩
  | 58 => ⟨S2048x4096, .f32⟩
  | 59 => ⟨S_, .f32⟩
  | 60 => ⟨S2046x4096, .f32⟩
  | 61 => ⟨S2046x4096, .f32⟩
  | 62 => ⟨S2046x2, .f32⟩
  | 63 => ⟨S2046x4094, .f32⟩
  | 64 => ⟨S2046x4096, .f32⟩
  | 65 => ⟨S2046x4096, .f32⟩
  | 66 => ⟨S2046x4096, .f32⟩
  | 67 => ⟨S2046x1, .f32⟩
  | 68 => ⟨S2046x4095, .f32⟩
  | 69 => ⟨S2046x4096, .f32⟩
  | 70 => ⟨S2046x4096, .f32⟩
  | 71 => ⟨S2046x4096, .f32⟩
  | 72 => ⟨S2046x4096, .f32⟩
  | 73 => ⟨S2046x0, .f32⟩
  | 74 => ⟨S2046x4096, .f32⟩
  | 75 => ⟨S2046x4096, .f32⟩
  | 76 => ⟨S_, .f32⟩
  | 77 => ⟨S4096, .f32⟩
  | 78 => ⟨S_, .i32⟩
  | 79 => ⟨S20, .i32⟩
  | 80 => ⟨S20, .i1⟩
  | 81 => ⟨S_, .i32⟩
  | 82 => ⟨S20, .i32⟩
  | 83 => ⟨S20, .i32⟩
  | 84 => ⟨S20, .i32⟩
  | 85 => ⟨S20x1, .i32⟩
  | 86 => ⟨S20, .f32⟩
  | 87 => ⟨S20x1, .f32⟩
  | 88 => ⟨S20x4096, .f32⟩
  | 89 => ⟨S20x4096, .f32⟩
  | 90 => ⟨S20x4096, .f32⟩
  | 91 => ⟨S20x4096, .f32⟩
  | 92 => ⟨S20x4096, .f32⟩
  | 93 => ⟨S20x4096, .f32⟩
  | 94 => ⟨S546, .f32⟩
  | 95 => ⟨S6x91, .f32⟩
  | 96 => ⟨S6x4096, .f32⟩
  | 97 => ⟨S6x4096, .f32⟩
  | 98 => ⟨S6x4096, .f32⟩
  | 99 => ⟨S6x4096, .f32⟩
  | 100 => ⟨S6x4096, .f32⟩
  | 101 => ⟨S1x4096, .f32⟩
  | 102 => ⟨S4096, .f32⟩
  | 103 => ⟨S1x4096, .f32⟩
  | 104 => ⟨S4096, .f32⟩
  | 105 => ⟨S4096, .f32⟩
  | 106 => ⟨S1x4096, .f32⟩
  | 107 => ⟨S4096, .f32⟩
  | 108 => ⟨S4096, .f32⟩
  | 109 => ⟨S1x4096, .f32⟩
  | 110 => ⟨S4096, .f32⟩
  | 111 => ⟨S4096, .f32⟩
  | 112 => ⟨S1x4096, .f32⟩
  | 113 => ⟨S4096, .f32⟩
  | 114 => ⟨S4096, .f32⟩
  | 115 => ⟨S1x4096, .f32⟩
  | 116 => ⟨S4096, .f32⟩
  | 117 => ⟨S4096, .f32⟩
  | 118 => ⟨S1x4096, .f32⟩
  | 119 => ⟨S4096, .f32⟩
  | 120 => ⟨S1x4096, .f32⟩
  | 121 => ⟨S4096, .f32⟩
  | 122 => ⟨S4096, .f32⟩
  | 123 => ⟨S1x4096, .f32⟩
  | 124 => ⟨S4096, .f32⟩
  | 125 => ⟨S4096, .f32⟩
  | 126 => ⟨S1x4096, .f32⟩
  | 127 => ⟨S4096, .f32⟩
  | _ => ⟨S2048x4, .f32⟩

abbrev hbmTy0_1 (i : Nat) : BufTy := match i % 128 with
  | 0 => ⟨S1x4096, .f32⟩
  | 1 => ⟨S4096, .f32⟩
  | 2 => ⟨S4096, .f32⟩
  | 3 => ⟨S4096, .f32⟩
  | 4 => ⟨S1x4096, .f32⟩
  | 5 => ⟨S4096, .f32⟩
  | 6 => ⟨S1x4096, .f32⟩
  | 7 => ⟨S4096, .f32⟩
  | 8 => ⟨S4096, .f32⟩
  | 9 => ⟨S4096, .f32⟩
  | 10 => ⟨S1x4096, .f32⟩
  | 11 => ⟨S4096, .f32⟩
  | 12 => ⟨S4096, .f32⟩
  | 13 => ⟨S1x4096, .f32⟩
  | 14 => ⟨S4096, .f32⟩
  | 15 => ⟨S4096, .f32⟩
  | 16 => ⟨S1x4096, .f32⟩
  | 17 => ⟨S4096, .f32⟩
  | 18 => ⟨S1x4096, .f32⟩
  | 19 => ⟨S4096, .f32⟩
  | 20 => ⟨S4096, .f32⟩
  | 21 => ⟨S1x4096, .f32⟩
  | 22 => ⟨S4096, .f32⟩
  | 23 => ⟨S4096, .f32⟩
  | 24 => ⟨S1x4096, .f32⟩
  | 25 => ⟨S4096, .f32⟩
  | 26 => ⟨S4096, .f32⟩
  | 27 => ⟨S4096, .f32⟩
  | 28 => ⟨S1x4096, .f32⟩
  | 29 => ⟨S4096, .f32⟩
  | 30 => ⟨S4096, .f32⟩
  | 31 => ⟨S1x4096, .f32⟩
  | 32 => ⟨S4096, .f32⟩
  | 33 => ⟨S4096, .f32⟩
  | 34 => ⟨S1x4096, .f32⟩
  | 35 => ⟨S4096, .f32⟩
  | 36 => ⟨S4096, .f32⟩
  | 37 => ⟨S1x4096, .f32⟩
  | 38 => ⟨S4096, .f32⟩
  | 39 => ⟨S4096, .f32⟩
  | 40 => ⟨S1x4096, .f32⟩
  | 41 => ⟨S4096, .f32⟩
  | 42 => ⟨S4096, .f32⟩
  | 43 => ⟨S1x4096, .f32⟩
  | 44 => ⟨S4096, .f32⟩
  | 45 => ⟨S4096, .f32⟩
  | 46 => ⟨S1x4096, .f32⟩
  | 47 => ⟨S4096, .f32⟩
  | 48 => ⟨S4096, .f32⟩
  | 49 => ⟨S4096, .f32⟩
  | 50 => ⟨S4096, .f32⟩
  | 51 => ⟨S_, .f32⟩
  | 52 => ⟨S4096, .f32⟩
  | 53 => ⟨S4096, .i1⟩
  | 54 => ⟨S_, .f32⟩
  | 55 => ⟨S_, .f32⟩
  | 56 => ⟨S4096, .f32⟩
  | 57 => ⟨S4096, .f32⟩
  | 58 => ⟨S4096, .f32⟩
  | _ => ⟨S2048x4, .f32⟩

abbrev hbmTy (i : Nat) : BufTy := match i / 128 with
  | 0 => hbmTy0_0 i
  | 1 => hbmTy0_1 i
  | _ => ⟨S2048x4, .f32⟩

abbrev bufTy : (tb : Table) → Fin (tcTables nBuf tb) → BufTy
  | .hbm, ⟨i, _⟩ => hbmTy i
  | _, _ => ⟨S2048x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_c_1 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v4 : Ref sig .tc := ⟨.hbm, 21, rfl⟩
abbrev main_call2_c : Ref sig .tc := ⟨.hbm, 22, rfl⟩
abbrev main_call2_v0 : Ref sig .tc := ⟨.hbm, 23, rfl⟩
abbrev main_call2_v1 : Ref sig .tc := ⟨.hbm, 24, rfl⟩
abbrev main_call2_c_0 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_v5 : Ref sig .tc := ⟨.hbm, 29, rfl⟩
abbrev main_call2_c_1 : Ref sig .tc := ⟨.hbm, 30, rfl⟩
abbrev main_call2_c_2 : Ref sig .tc := ⟨.hbm, 31, rfl⟩
abbrev main_call2_v6 : Ref sig .tc := ⟨.hbm, 32, rfl⟩
abbrev main_call2_v7 : Ref sig .tc := ⟨.hbm, 33, rfl⟩
abbrev main_call2_v8 : Ref sig .tc := ⟨.hbm, 34, rfl⟩
abbrev main_call2_v9 : Ref sig .tc := ⟨.hbm, 35, rfl⟩
abbrev main_call2_v10 : Ref sig .tc := ⟨.hbm, 36, rfl⟩
abbrev main_call2_v11 : Ref sig .tc := ⟨.hbm, 37, rfl⟩
abbrev main_call2_c_3 : Ref sig .tc := ⟨.hbm, 38, rfl⟩
abbrev main_call2_v12 : Ref sig .tc := ⟨.hbm, 39, rfl⟩
abbrev main_call2_v13 : Ref sig .tc := ⟨.hbm, 40, rfl⟩
abbrev main_call2_v14 : Ref sig .tc := ⟨.hbm, 41, rfl⟩
abbrev main_call2_cst : Ref sig .tc := ⟨.hbm, 42, rfl⟩
abbrev main_call2_v15 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_cst_2 : Ref sig .tc := ⟨.hbm, 59, rfl⟩
abbrev main_v20 : Ref sig .tc := ⟨.hbm, 60, rfl⟩
abbrev main_v21 : Ref sig .tc := ⟨.hbm, 61, rfl⟩
abbrev main_call3_v0 : Ref sig .tc := ⟨.hbm, 62, rfl⟩
abbrev main_call3_v1 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_call4_v0 : Ref sig .tc := ⟨.hbm, 67, rfl⟩
abbrev main_call4_v1 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_call5_v0 : Ref sig .tc := ⟨.hbm, 72, rfl⟩
abbrev main_call5_v1 : Ref sig .tc := ⟨.hbm, 73, rfl⟩
abbrev main_v28 : Ref sig .tc := ⟨.hbm, 74, rfl⟩
abbrev main_v29 : Ref sig .tc := ⟨.hbm, 75, rfl⟩
abbrev main_cst_3 : Ref sig .tc := ⟨.hbm, 76, rfl⟩
abbrev main_v30 : Ref sig .tc := ⟨.hbm, 77, rfl⟩
abbrev main_c_4 : Ref sig .tc := ⟨.hbm, 78, rfl⟩
abbrev main_v31 : Ref sig .tc := ⟨.hbm, 79, rfl⟩
abbrev main_v32 : Ref sig .tc := ⟨.hbm, 80, rfl⟩
abbrev main_c_5 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_6 : Ref sig .tc := ⟨.hbm, 179, rfl⟩
abbrev main_v130 : Ref sig .tc := ⟨.hbm, 180, rfl⟩
abbrev main_v131 : Ref sig .tc := ⟨.hbm, 181, rfl⟩
abbrev main_cst_7 : Ref sig .tc := ⟨.hbm, 182, rfl⟩
abbrev main_cst_8 : Ref sig .tc := ⟨.hbm, 183, rfl⟩
abbrev main_call6_v0 : Ref sig .tc := ⟨.hbm, 184, rfl⟩
abbrev main_call6_v1 : Ref sig .tc := ⟨.hbm, 185, rfl⟩
abbrev main_v132 : Ref sig .tc := ⟨.hbm, 186, rfl⟩

abbrev nD : Nat := 1
abbrev τ : Topo := Topo.v7x

variable {F : FTy → Type} [FloatOps F]
-- ==== Proof.Index.lean ====
module

public import Idealize.ShloMosaic.PureOps
public import Idealize.ShloMosaic.PureOps.Ideal
public import Mathlib.Tactic.Linarith

@[expose] public section

noncomputable section

open Idealize.ShloMosaic

namespace Cert.Level

/-- The signed value of the smaller of two words. -/
theorem toInt_minsi (x y : BitVec 32) : (IntOp.minsi x y).toInt = min x.toInt y.toInt := by
  unfold IntOp.minsi
  split <;> rename_i h <;> simp [BitVec.slt, BitVec.sle] at h <;> omega

/-- The signed value of the larger of two words. -/
theorem toInt_maxsi (x y : BitVec 32) : (IntOp.maxsi x y).toInt = max x.toInt y.toInt := by
  unfold IntOp.maxsi
  split <;> rename_i h <;> simp [BitVec.slt, BitVec.sle] at h <;> omega

/-- A word given by an integer that 32 bits hold has that integer as its signed value. -/
theorem toInt_held (z : ℤ) (h₀ : -2147483648 ≤ z) (h₁ : z ≤ 2147483647) : (BitVec.ofInt 32 z).toInt = z := by
  rw [BitVec.toInt_ofInt]
  exact Int.bmod_eq_of_le (by norm_num; omega) (by norm_num; omega)

/-- The level of a rounded signal is one natural number below 1024, whichever way it is reached: clipping the rounded
    number itself, or converting it to a word and clipping the word. An infinite signal goes to the end of the scale in
    both. -/
theorem level (f : ℝ → ℤ) (y : EReal) : ∃ n : ℕ, n ≤ 1023 ∧ min (1023 : EReal) (max 0 (Ideal.liftRound f y)) = (n : EReal)
    ∧ IntOp.minsi 1023#32 (IntOp.maxsi 0#32 (Ideal.fptosi 32 (Ideal.liftRound f y))) = BitVec.ofNat 32 n := by
  induction y with
  | bot =>
    refine ⟨0, by norm_num, by simp, ?_⟩
    rw [Ideal.liftRound_bot]
    decide
  | top =>
    refine ⟨1023, le_rfl, by simp, ?_⟩
    rw [Ideal.liftRound_top]
    decide
  | coe r =>
    rw [Ideal.liftRound_coe]
    generalize f r = z
    refine ⟨(min 1023 (max 0 z)).toNat, by omega, ?_, ?_⟩
    · have h : (((min 1023 (max 0 z)).toNat : ℕ) : ℝ) = min 1023 (max 0 (z : ℝ)) := by
        have : (((min 1023 (max 0 z)).toNat : ℤ) : ℝ) = ((min 1023 (max 0 z) : ℤ) : ℝ) := by
          congr 1
          omega
        push_cast at this
        rw [← this]
      have hc : ((((min 1023 (max 0 z)).toNat : ℕ) : ℝ) : EReal) = (((min 1023 (max 0 z)).toNat : ℕ) : EReal) := by
        simp
      rw [← hc, h, EReal.coe_strictMono.monotone.map_min, EReal.coe_strictMono.monotone.map_max]
      rfl
    · apply BitVec.eq_of_toInt_eq
      have hz : Ideal.fptosi 32 ((z : ℝ) : EReal) = BitVec.ofInt 32 (max (-2147483648) (min 2147483647 z)) := by
        unfold Ideal.fptosi
        rw [Ideal.toIntClamped_coe]
        simp
      rw [toInt_minsi, toInt_maxsi, hz, toInt_held _ (by omega) (by omega),
        show BitVec.ofNat 32 (min 1023 (max 0 z)).toNat = BitVec.ofInt 32 ((min 1023 (max 0 z)).toNat : ℤ) from
          (BitVec.ofInt_natCast 32 _).symm, toInt_held _ (by omega) (by omega), show (1023#32).toInt = 1023 by decide,
        show (0#32).toInt = 0 by decide]
      omega

end Cert.Level

end
-- ==== Proof.KernelRun.lean ====
module

public import proofs.«01_k».proof.Proof.Gen.KernelIdeal.Frame
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.KernelIdeal.Launched

open Cert.KernelIdeal Cert.KernelIdeal.Gen

variable {F : FTy → Type} [FloatOps F]
variable (m : (ℓ : Loc nD τ sig) → Buf (Elt F) ℓ) (ρ : Dev nD → PrngReg)

/-- The twenty chosen features, each down the 4096 lanes, as the host lays them out for the launch. -/
def features (feat : FVec F S620 .f32) : FVec F S20x4096 .f32 :=
  broadcastInDim S20x4096 ![0, 1] bcast_S20x1_S20x4096_0_1 (shapeCast S20x1
    (Host.gather gather_S620_S20x1_S20_n_0_n_n_0_1_1 feat (broadcastInDim S20x1 ![0] bcast_S20_S20x1_0
      (select (cmpi .slt (fun i => lit0 (S20.rowMajor i)) (broadcastInDim S20 ![] bcast_S_S20 (constantI S_ 32 0#32)))
        (addi (fun i => lit0 (S20.rowMajor i)) (broadcastInDim S20 ![] bcast_S_S20 (constantI S_ 32 620#32)))
        (fun i => lit0 (S20.rowMajor i))))) shapeCasts_S20_S20x1)

/-- The six segments' projections, the contraction that the host computes for the launch. -/
def projections (feat : FVec F S620 .f32) (W : FVec F S6x4096x91 .f32) : FVec F S6x4096 .f32 :=
  Host.dotGeneral dot_S6x91_S6x4096x91_S6x4096_1_2_n_1_0_0 none
    (shapeCast S6x91 (extractStridedSlice S546 ![0] feat slices_S620_S546_0) shapeCasts_S546_S6x91) W

/-- The result array of the launch: the body's one block, of the argument arrays and the two arrays the host lays out. -/
def launched (a0 : FVec F S2048x4 .f32) (a1 : FVec F S620 .f32) (a2 : FVec F S4x4096 .f32) (a3 : FVec F S1024x4096 .f32)
    (a4 : FVec F S20x4096 .f32) (a5 : FVec F S20x4096 .f32) (a6 : FVec F S6x4096x91 .f32) (a7 : FVec F S6x4096 .f32) :
    FVec F S1x4096 .f32 :=
  out0_8 a0 (features a1) a2 a3 a4 a5 (projections a1 a6) a7

/-- When the launch starts, its second array holds the chosen features, laid out down the lanes. -/
theorem features_entry (c : Dev nD) : V m c main_v8 = features (F := F) (m ((c : Thread nD τ).loc main_arg1)) := by
  unfold V V0
  simp only [List.flatten_cons, List.flatten_nil, List.append_nil]
  after_results
  rfl

/-- When the launch starts, its seventh array holds the segments' projections. -/
theorem projections_entry (c : Dev nD) : V m c main_v11
    = projections (F := F) (m ((c : Thread nD τ).loc main_arg1)) (m ((c : Thread nD τ).loc main_arg6)) := by
  unfold V V0
  simp only [List.flatten_cons, List.flatten_nil, List.append_nil]
  after_results
  rfl

/-- When the launch ends, its result array holds the body's one block. -/
theorem final (c : Dev nD) : (dats m 0 c).arrAt 8 (cfgs 0).N = launched (F := F)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) := by
  refine (dats m 0 c).arrAt_eq_of_after_last 8 t0_0 (by decide +kernel) _ fun j => ?_
  blk_simp
  rw [after0_8]
  have e0 : iblk m c 0 t0_0 = m ((c : Thread nD τ).loc main_arg0) := by
    funext y
    blk_ext [iblk, V, (by decide +kernel : win0_0.index t0_0 = fun _ => 0)]
  have e1 : iblk m c 1 t0_0 = V m c main_v8 := by
    funext y
    blk_ext [iblk, V, (by decide +kernel : win0_1.index t0_0 = fun _ => 0)]
  have e2 : iblk m c 2 t0_0 = m ((c : Thread nD τ).loc main_arg2) := by
    funext y
    blk_ext [iblk, V, (by decide +kernel : win0_2.index t0_0 = fun _ => 0)]
  have e3 : iblk m c 3 t0_0 = m ((c : Thread nD τ).loc main_arg3) := by
    funext y
    blk_ext [iblk, V, (by decide +kernel : win0_3.index t0_0 = fun _ => 0)]
  have e4 : iblk m c 4 t0_0 = m ((c : Thread nD τ).loc main_arg4) := by
    funext y
    blk_ext [iblk, V, (by decide +kernel : win0_4.index t0_0 = fun _ => 0)]
  have e5 : iblk m c 5 t0_0 = m ((c : Thread nD τ).loc main_arg5) := by
    funext y
    blk_ext [iblk, V, (by decide +kernel : win0_5.index t0_0 = fun _ => 0)]
  have e6 : iblk m c 6 t0_0 = V m c main_v11 := by
    funext y
    blk_ext [iblk, V, (by decide +kernel : win0_6.index t0_0 = fun _ => 0)]
  have e7 : iblk m c 7 t0_0 = m ((c : Thread nD τ).loc main_arg7) := by
    funext y
    blk_ext [iblk, V, (by decide +kernel : win0_7.index t0_0 = fun _ => 0)]
  rw [e0, e1, e2, e3, e4, e5, e6, e7, features_entry, projections_entry]
  rfl

/-- The kernel ends with its result the launch's one row as a vector of 4096. -/
theorem run : θ_run defs (onTc (τ := τ) (main (F := F))) ⟨m, fun _ => 0, ρ⟩ fun r => ∀ c : Dev nD,
      r.2.mem ((c : Thread nD τ).loc main_v13) = shapeCast S4096 (launched (F := F)
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))) shapeCasts_S1x4096_S4096 := by
  run_from run_main m ρ
  rw [← final]
  unfold Pipeline.afterTail₀
  simp only [List.flatten_cons, List.flatten_nil, List.append_nil]
  after_results
  have h := Pipeline.withArrays_arr (Val := Elt F) (cfgs 0).spec launch0.win.arr_inj c (V0 m c) (fun w => (dats m 0 c).arrAt w (cfgs 0).N) 8
  exact congrArg (fun A => shapeCast S4096 A shapeCasts_S1x4096_S4096) h

end Cert.KernelIdeal.Launched

end
-- ==== Proof.Block.lean ====
module

public import proofs.«01_k».proof.Proof.Gen.KernelIdeal.Frame
public import Idealize.ShloMosaic.Lib.Pipeline.ValueKit
public import Idealize.ShloMosaic.Lib.Pointwise
public import Mathlib.Data.BitVec

@[expose] public section

set_option maxRecDepth 16384

noncomputable section

open Idealize.ShloMosaic

namespace Cert.KernelIdeal.Count

open Cert.KernelIdeal Cert.KernelIdeal.Gen

variable {F : FTy → Type} [FloatOps F]

/-- The words of one channel of a block of 130 rows: all ones where the level of the channel is below the threshold. -/
def below130 (th : FVec F S1x4096 .f32) (col : FVec F S130x1 .f32) : IVec S130x4096 32 :=
  select (cmpf .olt (subf (broadcastTo S130x4096 col broadcasts_S130x1_S130x4096)
      (broadcastTo S130x4096 th broadcasts_S1x4096_S130x4096)) (constant S130x4096 .f32 0x00000000#32))
    (broadcast S130x4096 4294967295#32) (broadcast S130x4096 0#32)

/-- The exclusive or of the four channels' words of a block of 130 rows. -/
def parity130 (th : FVec F S1x4096 .f32) (v : FVec F S130x4 .f32) : IVec S130x4096 32 :=
  xori (xori (xori (below130 th (extractStridedSlice S130x1 ![0, 0] v slices_S130x4_o0_0_S130x1))
      (below130 th (extractStridedSlice S130x1 ![0, 1] v slices_S130x4_o0_1_S130x1)))
    (below130 th (extractStridedSlice S130x1 ![0, 2] v slices_S130x4_o0_2_S130x1)))
    (below130 th (extractStridedSlice S130x1 ![0, 3] v slices_S130x4_o0_3_S130x1))

/-- Minus the number of odd trigrams that start in the first 128 rows of a block of 130, lane by lane, from the
    block's words. -/
def tally130 (X : IVec S130x4096 32) : IVec S1x4096 32 :=
  shapeCast S1x4096 (multiReductionI .add [0] S4096
    (shrsi (xori (xori (extractStridedSlice S128x4096 ![0, 0] (dynamicRotate 1 2#32 none X rotates_S130x4096_d1) slices_S130x4096_o0_0_S128x4096)
        (extractStridedSlice S128x4096 ![0, 0] (dynamicRotate 0 129#32 none (dynamicRotate 1 1#32 none X rotates_S130x4096_d1) rotates_S130x4096_d0) slices_S130x4096_o0_0_S128x4096))
      (extractStridedSlice S128x4096 ![0, 0] (dynamicRotate 0 128#32 none X rotates_S130x4096_d0) slices_S130x4096_o0_0_S128x4096))
      (broadcast S128x4096 31#32)) 0#32 reduces_S128x4096_S4096 rfl) shapeCasts_S4096_S1x4096

/-- `below130` for the last block, of 128 rows. -/
def below128 (th : FVec F S1x4096 .f32) (col : FVec F S128x1 .f32) : IVec S128x4096 32 :=
  select (cmpf .olt (subf (broadcastTo S128x4096 col broadcasts_S128x1_S128x4096)
      (broadcastTo S128x4096 th broadcasts_S1x4096_S128x4096)) (constant S128x4096 .f32 0x00000000#32))
    (broadcast S128x4096 4294967295#32) (broadcast S128x4096 0#32)

/-- `parity130` for the last block, of 128 rows. -/
def parity128 (th : FVec F S1x4096 .f32) (v : FVec F S128x4 .f32) : IVec S128x4096 32 :=
  xori (xori (xori (below128 th (extractStridedSlice S128x1 ![0, 0] v slices_S128x4_o0_0_S128x1))
      (below128 th (extractStridedSlice S128x1 ![0, 1] v slices_S128x4_o0_1_S128x1)))
    (below128 th (extractStridedSlice S128x1 ![0, 2] v slices_S128x4_o0_2_S128x1)))
    (below128 th (extractStridedSlice S128x1 ![0, 3] v slices_S128x4_o0_3_S128x1))

/-- `tally130` for the last block: of its 128 rows, 126 start a trigram. -/
def tally128 (X : IVec S128x4096 32) : IVec S1x4096 32 :=
  shapeCast S1x4096 (multiReductionI .add [0] S4096
    (shrsi (xori (xori (extractStridedSlice S126x4096 ![0, 0] (dynamicRotate 1 2#32 none X rotates_S128x4096_d1) slices_S128x4096_o0_0_S126x4096)
        (extractStridedSlice S126x4096 ![0, 0] (dynamicRotate 0 127#32 none (dynamicRotate 1 1#32 none X rotates_S128x4096_d1) rotates_S128x4096_d0) slices_S128x4096_o0_0_S126x4096))
      (extractStridedSlice S126x4096 ![0, 0] (dynamicRotate 0 126#32 none X rotates_S128x4096_d0) slices_S128x4096_o0_0_S126x4096))
      (broadcast S126x4096 31#32)) 0#32 reduces_S126x4096_S4096 rfl) shapeCasts_S4096_S1x4096

/-- Minus the number of odd trigrams of all 2046, lane by lane: the sixteen blocks' words, added in the kernel's order. -/
def tally (th : FVec F S1x4096 .f32) (v : FVec F S2048x4 .f32) : IVec S1x4096 32 :=
  addi (addi (addi (addi (addi (addi (addi (addi (addi (addi (addi (addi (addi (addi (addi (addi (broadcast S1x4096 0#32)
    (tally130 (parity130 th (extractStridedSlice S130x4 ![0, 0] v slices_S2048x4_o0_0_S130x4))))
    (tally130 (parity130 th (extractStridedSlice S130x4 ![128, 0] v slices_S2048x4_o128_0_S130x4))))
    (tally130 (parity130 th (extractStridedSlice S130x4 ![256, 0] v slices_S2048x4_o256_0_S130x4))))
    (tally130 (parity130 th (extractStridedSlice S130x4 ![384, 0] v slices_S2048x4_o384_0_S130x4))))
    (tally130 (parity130 th (extractStridedSlice S130x4 ![512, 0] v slices_S2048x4_o512_0_S130x4))))
    (tally130 (parity130 th (extractStridedSlice S130x4 ![640, 0] v slices_S2048x4_o640_0_S130x4))))
    (tally130 (parity130 th (extractStridedSlice S130x4 ![768, 0] v slices_S2048x4_o768_0_S130x4))))
    (tally130 (parity130 th (extractStridedSlice S130x4 ![896, 0] v slices_S2048x4_o896_0_S130x4))))
    (tally130 (parity130 th (extractStridedSlice S130x4 ![1024, 0] v slices_S2048x4_o1024_0_S130x4))))
    (tally130 (parity130 th (extractStridedSlice S130x4 ![1152, 0] v slices_S2048x4_o1152_0_S130x4))))
    (tally130 (parity130 th (extractStridedSlice S130x4 ![1280, 0] v slices_S2048x4_o1280_0_S130x4))))
    (tally130 (parity130 th (extractStridedSlice S130x4 ![1408, 0] v slices_S2048x4_o1408_0_S130x4))))
    (tally130 (parity130 th (extractStridedSlice S130x4 ![1536, 0] v slices_S2048x4_o1536_0_S130x4))))
    (tally130 (parity130 th (extractStridedSlice S130x4 ![1664, 0] v slices_S2048x4_o1664_0_S130x4))))
    (tally130 (parity130 th (extractStridedSlice S130x4 ![1792, 0] v slices_S2048x4_o1792_0_S130x4))))
    (tally128 (parity128 th (extractStridedSlice S128x4 ![1920, 0] v slices_S2048x4_o1920_0_S128x4)))

/-- The bundled trigrams: the number of trigrams less twice the odd ones, times the keys' product. -/
def sample (x0 : FVec F S2048x4 .f32) (x2 : FVec F S4x4096 .f32) (x3 : FVec F S1024x4096 .f32) : FVec F S1x4096 .f32 :=
  mulf (addf (broadcast S1x4096 (Scalar.ofBits .f32 0x44FFC000#32)) (mulf (broadcast S1x4096 (Scalar.ofBits .f32 0x40000000#32))
    (sitofp .f32 (tally (k0_pay2 x3) (k0_pay4 x0))))) (k0_pay3 x2)

/-- The body's one block of results is the sign of the bundled trigrams times the features' combination. -/
theorem out_eq (x0 : FVec F S2048x4 .f32) (x1 : FVec F S20x4096 .f32) (x2 : FVec F S4x4096 .f32) (x3 : FVec F S1024x4096 .f32)
    (x4 x5 : FVec F S20x4096 .f32) (x6 x7 : FVec F S6x4096 .f32) (j : S1x4096.Idx) :
    out0_8 x0 x1 x2 x3 x4 x5 x6 x7 j = k0_pay1 (sample x0 x2 x3)
      (k0_pay106 (k0_pay103 x1 x4 x5) (k0_pay104 x6 x7) (k0_pay105 x1 x4 x5)) j := by
  unfold_out out0_8
  frame_out
  rfl

/-- The lane `k` places before lane `d`, around the end of the 4096 lanes. -/
def back (k : Nat) (d : Fin 4096) : Fin 4096 := ⟨(d.val + 4096 - k) % 4096, Nat.mod_lt _ (by norm_num)⟩

/-- The word of a sign: all ones or zero. -/
def mark (b : Bool) : BitVec 32 := if b then 4294967295#32 else 0#32

/-- The exclusive or of two signs' words is the word of the signs' exclusive or. -/
theorem mark_xor (a b : Bool) : IntOp.xori (mark a) (mark b) = mark (a ^^ b) := by
  cases a <;> cases b <;> decide

/-- A sign's word, shifted right to its sign bit, is itself. -/
theorem mark_shr (a : Bool) : IntOp.shrsi .vector (mark a) 31#32 = mark a := by
  cases a <;> decide

/-- A select of the all-ones word by a proposition is the word of that proposition. -/
theorem mark_decide (p : Prop) [Decidable p] : (if p then 4294967295#32 else 0#32) = mark (decide p) := by
  unfold mark
  by_cases h : p <;> simp [h]

/-- The trigram that starts at row `t`, read at lane `d`, is odd: of its twelve signs an odd number is negative. -/
def odd (N : Nat → Fin 4096 → Bool) (t : Nat) (d : Fin 4096) : Bool :=
  N t (back 2 d) ^^ N (t + 1) (back 1 d) ^^ N (t + 2) d

/-- The parity of a row's four channels at a lane: `true` where an odd number of the levels is below the threshold. -/
def neg (th : FVec Ideal S1x4096 .f32) (v : FVec Ideal S2048x4 .f32) (t : Nat) (d : Fin 4096) : Bool :=
  if h : t < 2048 then
    (((decide (v (ix2 ⟨t, h⟩ 0) - th (ix2 0 d) < 0) ^^ decide (v (ix2 ⟨t, h⟩ 1) - th (ix2 0 d) < 0))
      ^^ decide (v (ix2 ⟨t, h⟩ 2) - th (ix2 0 d) < 0)) ^^ decide (v (ix2 ⟨t, h⟩ 3) - th (ix2 0 d) < 0))
  else false

/-- A fold of word additions over an index range is the sum. -/
theorem fold_addi (n : Nat) (f : Nat → BitVec 32) :
    Finset.fold IntOp.addi (0#32) (fun x : Fin n => f x) Finset.univ = ∑ r ∈ Finset.range n, f r := by
  rw [← Fin.sum_univ_eq_sum_range]
  exact (Finset.sum_eq_fold _ _).symm

/-- The tally of a block of 130 rows whose words are signs' words: the sum of the odd trigrams' words. -/
theorem tally130_apply (X : IVec S130x4096 32) (N : Nat → Fin 4096 → Bool) (o : Nat)
    (hX : ∀ (r : Fin 130) (d : Fin 4096), X (ix2 r d) = mark (N (o + r) d)) (d : Fin 4096) :
    tally130 X (ix2 0 d) = ∑ r ∈ Finset.range 128, mark (odd N (o + r) d) := by
  rw [← fold_addi 128 fun r => mark (odd N (o + r) d)]
  pointwise [tally130]
  congr 1
  funext x
  have h1 : (x.val + 130 - 129) % 130 = x.val + 1 := by omega
  have h2 : (x.val + 130 - 128) % 130 = x.val + 2 := by omega
  rw [hX, hX, hX, mark_xor, mark_xor, mark_shr]
  simp only [h1, h2]
  simp only [odd, back, Bool.xor_assoc, Nat.add_assoc, Nat.sub_zero]

/-- The tally of the last block, of 128 rows. -/
theorem tally128_apply (X : IVec S128x4096 32) (N : Nat → Fin 4096 → Bool) (o : Nat)
    (hX : ∀ (r : Fin 128) (d : Fin 4096), X (ix2 r d) = mark (N (o + r) d)) (d : Fin 4096) :
    tally128 X (ix2 0 d) = ∑ r ∈ Finset.range 126, mark (odd N (o + r) d) := by
  rw [← fold_addi 126 fun r => mark (odd N (o + r) d)]
  pointwise [tally128]
  congr 1
  funext x
  have h1 : (x.val + 128 - 127) % 128 = x.val + 1 := by omega
  have h2 : (x.val + 128 - 126) % 128 = x.val + 2 := by omega
  rw [hX, hX, hX, mark_xor, mark_xor, mark_shr]
  simp only [h1, h2]
  simp only [odd, back, Bool.xor_assoc, Nat.add_assoc, Nat.sub_zero]

/-- The words of a block of 130 rows, read at an index: the parity's word. -/
theorem parity130_apply (th : FVec Ideal S1x4096 .f32) (v : FVec Ideal S2048x4 .f32) (o : Nat) (w : FVec Ideal S130x4 .f32)
    (ho : o + 130 ≤ 2048) (hw : ∀ (r : Fin 130) (c : Fin 4), w (ix2 r c) = v (ix2 ⟨o + r, by omega⟩ c)) (r : Fin 130) (d : Fin 4096) :
    parity130 th w (ix2 r d) = mark (neg th v (o + r) d) := by
  have hr : o + r.val < 2048 := by omega
  pointwise [parity130, below130]
  rw [hw, hw, hw, hw, mark_decide, mark_decide, mark_decide, mark_decide, mark_xor, mark_xor, mark_xor]
  rw [neg, dif_pos hr]

/-- The words of the last block, read at an index. -/
theorem parity128_apply (th : FVec Ideal S1x4096 .f32) (v : FVec Ideal S2048x4 .f32) (o : Nat) (w : FVec Ideal S128x4 .f32)
    (ho : o + 128 ≤ 2048) (hw : ∀ (r : Fin 128) (c : Fin 4), w (ix2 r c) = v (ix2 ⟨o + r, by omega⟩ c)) (r : Fin 128) (d : Fin 4096) :
    parity128 th w (ix2 r d) = mark (neg th v (o + r) d) := by
  have hr : o + r.val < 2048 := by omega
  pointwise [parity128, below128]
  rw [hw, hw, hw, hw, mark_decide, mark_decide, mark_decide, mark_decide, mark_xor, mark_xor, mark_xor]
  rw [neg, dif_pos hr]

/-- One block's tally is the sum of its odd trigrams' words, from the block's offset on. -/
theorem block130 (th : FVec Ideal S1x4096 .f32) (v : FVec Ideal S2048x4 .f32) (o : Nat) (h : S2048x4.Slices ![o, 0] S130x4)
    (ho : o + 130 ≤ 2048) (d : Fin 4096) :
    tally130 (parity130 th (extractStridedSlice S130x4 ![o, 0] v h)) (ix2 0 d)
      = ∑ r ∈ Finset.range 128, mark (odd (neg th v) (o + r) d) :=
  tally130_apply _ _ o (fun r e => parity130_apply th v o _ ho (fun r c => by pointwise) r e) d

/-- The last block's tally. -/
theorem block128 (th : FVec Ideal S1x4096 .f32) (v : FVec Ideal S2048x4 .f32) (o : Nat) (h : S2048x4.Slices ![o, 0] S128x4)
    (ho : o + 128 ≤ 2048) (d : Fin 4096) :
    tally128 (parity128 th (extractStridedSlice S128x4 ![o, 0] v h)) (ix2 0 d)
      = ∑ r ∈ Finset.range 126, mark (odd (neg th v) (o + r) d) :=
  tally128_apply _ _ o (fun r e => parity128_apply th v o _ ho (fun r c => by pointwise) r e) d

/-- The whole tally at a lane: the sum of the odd trigrams' words over all 2046 trigrams. -/
theorem tally_apply (th : FVec Ideal S1x4096 .f32) (v : FVec Ideal S2048x4 .f32) (d : Fin 4096) :
    tally th v (ix2 0 d) = ∑ t ∈ Finset.range 2046, mark (odd (neg th v) t d) := by
  have split (m : Nat) : ∑ t ∈ Finset.range (m + 128), mark (odd (neg th v) t d)
      = ∑ t ∈ Finset.range m, mark (odd (neg th v) t d) + ∑ t ∈ Finset.range 128, mark (odd (neg th v) (m + t) d) :=
    Finset.sum_range_add _ m 128
  have last : ∑ t ∈ Finset.range 2046, mark (odd (neg th v) t d)
      = ∑ t ∈ Finset.range 1920, mark (odd (neg th v) t d) + ∑ t ∈ Finset.range 126, mark (odd (neg th v) (1920 + t) d) :=
    Finset.sum_range_add _ 1920 126
  rw [last, split 1792, split 1664, split 1536, split 1408, split 1280, split 1152, split 1024, split 896, split 768, split 640,
    split 512, split 384, split 256, split 128, split 0, Finset.sum_range_zero]
  have hadd (a b : IVec S1x4096 32) : addi a b (ix2 0 d) = a (ix2 0 d) + b (ix2 0 d) := rfl
  unfold tally
  simp only [hadd]
  repeat rw [block130 _ _ _ _ (by norm_num)]
  rw [block128 _ _ _ _ (by norm_num)]
  rfl

end Cert.KernelIdeal.Count

end
-- ==== Proof.Reference.lean ====
module

public import proofs.«01_k».proof.Proof.Index
public import proofs.«01_k».proof.Proof.KernelRun
public import proofs.«01_k».proof.Proof.Block
public import proofs.«01_k».proof.Proof.Gen.ReferenceIdeal.Run
public import Idealize.ShloMosaic.Lib.Pointwise
public import Idealize.ShloMosaic.Lib.Tactic.CleanTypes

@[expose] public section

set_option maxRecDepth 16384

noncomputable section

open Idealize.ShloMosaic

namespace Cert.ReferenceIdeal.Meaning

open Cert.ReferenceIdeal Cert.ReferenceIdeal.Gen Cert.ReferenceIdeal.Value

variable (V0 : Valuation τ sig (Elt Ideal))

/-- The level of each signal, as the reference's word. -/
abbrev word : IVec S2048x4 32 := res_main_v4 V0

/-- The table row each signal is looked up at, as the reference's word. -/
abbrev row : IVec S2048x4x1 32 := res_main_call2_v5 V0

/-- The table's values at the signals, each bound to its channel's key. -/
abbrev bound : FVec Ideal S2048x4x4096 .f32 := res_main_v8 V0

/-- The product over the channels at each step. -/
abbrev product : FVec Ideal S2048x4096 .f32 := res_main_v19 V0

/-- The number whose sign is the result. -/
abbrev total : FVec Ideal S4096 .f32 := res_main_v129 V0

/-- The arguments, with the shapes they are declared at. -/
abbrev signals : FVec Ideal S2048x4 .f32 := V0 (Proc.devRef .tc main_arg0)
@[inherit_doc signals] abbrev feat : FVec Ideal S620 .f32 := V0 (Proc.devRef .tc main_arg1)
@[inherit_doc signals] abbrev keys : FVec Ideal S4x4096 .f32 := V0 (Proc.devRef .tc main_arg2)
@[inherit_doc signals] abbrev table : FVec Ideal S1024x4096 .f32 := V0 (Proc.devRef .tc main_arg3)
@[inherit_doc signals] abbrev featW : FVec Ideal S20x4096 .f32 := V0 (Proc.devRef .tc main_arg4)
@[inherit_doc signals] abbrev featB : FVec Ideal S20x4096 .f32 := V0 (Proc.devRef .tc main_arg5)
@[inherit_doc signals] abbrev mfccW : FVec Ideal S6x4096x91 .f32 := V0 (Proc.devRef .tc main_arg6)
@[inherit_doc signals] abbrev mfccB : FVec Ideal S6x4096 .f32 := V0 (Proc.devRef .tc main_arg7)

/-- A table lookup, entry by entry: entry `(t, c, d)` is entry `d` of the table's row numbered by the word at `(t, c)`, that
    word read signed and clamped to the table. -/
theorem lookup_apply (x : FVec Ideal S1024x4096 .f32) (idx : IVec S2048x4x1 32) (t : Fin 2048) (c : Fin 4) (d : Fin 4096) :
    Host.gather gather_S1024x4096_S2048x4x1_S2048x4x4096_2_0_n_n_0_2_14096 x idx (ix3 t c d)
      = x (ix2 ⟨min (idx (ix3 t c 0)).toInt.toNat 1023, by omega⟩ d) := by
  refine congrArg x (funext fun a => Fin.ext ?_)
  fin_cases a
  · exact congrArg (fun k => min (idx k).toInt.toNat 1023) (funext fun b => by fin_cases b <;> rfl)
  · exact (Nat.zero_add _).trans rfl

/-- The reference's level of step `t` on channel `c`: the signal times 1023, rounded, converted to a word and clipped. -/
theorem word_apply (t : Fin 2048) (c : Fin 4) : word V0 (ix2 t c)
    = IntOp.minsi 1023#32 (IntOp.maxsi 0#32 (Ideal.fptosi 32 (Ideal.liftRound Ideal.roundHalfEven
        (signals V0 (ix2 t c) * Ideal.ofBits .f32 0x447FC000#32)))) := by
  unfold word res_main_v4
  clean_types
  pointwise
  rfl

/-- A level below 1024 is not negative, so the row number that the table is read at is the level itself. -/
theorem row_apply (t : Fin 2048) (c : Fin 4) (x : Fin 1) {n : ℕ} (hn : n ≤ 1023) (h : word V0 (ix2 t c) = BitVec.ofNat 32 n) :
    row V0 (ix3 t c x) = BitVec.ofNat 32 n := by
  have hs : IntOp.cmpi .slt (BitVec.ofNat 32 n) 0#32 = 0#1 := by
    have : ¬ (BitVec.ofNat 32 n).toInt < (0#32).toInt := by
      rw [← BitVec.ofInt_natCast, Level.toInt_held _ (by omega) (by omega), show (0#32).toInt = 0 by decide]
      omega
    simp only [IntOp.cmpi, BitVec.slt, decide_eq_false this]
    rfl
  unfold row res_main_call2_v5
  clean_types
  pointwise
  simp only [show res_main_v4 V0 (ix2 t c) = BitVec.ofNat 32 n from h, hs]
  rfl

/-- A bound entry is its channel's key times the table's entry in the row of the step's level. -/
theorem bound_apply (t : Fin 2048) (c : Fin 4) (d : Fin 4096) {n : ℕ} (hn : n ≤ 1023)
    (h : word V0 (ix2 t c) = BitVec.ofNat 32 n) : bound V0 (ix3 t c d)
      = keys V0 (ix2 c d) * table V0 (ix2 ⟨n, by omega⟩ d) := by
  have hr := fun x => row_apply V0 t c x hn h
  have hi : (BitVec.ofNat 32 n).toInt = n := by
    rw [← BitVec.ofInt_natCast, Level.toInt_held _ (by omega) (by omega)]
  have hg : Host.gather gather_S1024x4096_S2048x4x1_S2048x4x4096_2_0_n_n_0_2_14096 (table V0) (row V0) (ix3 t c d)
      = table V0 (ix2 ⟨n, by omega⟩ d) := by
    refine (lookup_apply (table V0) (row V0) t c d).trans (congrArg (fun r => table V0 (ix2 r d)) (Fin.ext ?_))
    refine (congrArg (fun w : BitVec 32 => min w.toInt.toNat 1023) (hr 0)).trans ?_
    show min (BitVec.ofNat 32 n).toInt.toNat 1023 = n
    rw [hi]
    omega
  have hge : IntOp.cmpi .sge (BitVec.ofNat 32 n) 0#32 = 1#1 := by
    have : (0#32).toInt ≤ (BitVec.ofNat 32 n).toInt := by
      rw [hi, show (0#32).toInt = 0 by decide]
      omega
    simp only [IntOp.cmpi, BitVec.sle, decide_eq_true this]
    rfl
  have hle : IntOp.cmpi .sle (BitVec.ofNat 32 n) 1023#32 = 1#1 := by
    have : (BitVec.ofNat 32 n).toInt ≤ (1023#32).toInt := by
      rw [hi, show (1023#32).toInt = 1023 by decide]
      omega
    simp only [IntOp.cmpi, BitVec.sle, decide_eq_true this]
    rfl
  unfold bound res_main_v8
  clean_types
  pointwise
  refine congrArg (keys V0 (ix2 c d) * ·) ?_
  have hm : ∀ x : Fin 1, IntOp.andi (IntOp.cmpi .sge (row V0 (ix3 t c x)) 0#32) (IntOp.cmpi .sle (row V0 (ix3 t c x)) 1023#32)
      = 1#1 := by
    intro x
    rw [hr x, hge, hle]
    rfl
  refine Eq.trans (congrArg (fun b => Scalar.select b _ _) (show _ = 1#1 from ?_)) hg
  refine (Finset.fold_congr fun x _ => hm x).trans ?_
  rfl

/-- A step's product is the product of its four channels' bound entries. -/
theorem product_apply (t : Fin 2048) (d : Fin 4096) : product V0 (ix2 t d)
    = bound V0 (ix3 t 0 d) * bound V0 (ix3 t 1 d) * bound V0 (ix3 t 2 d) * bound V0 (ix3 t 3 d) := by
  unfold product res_main_v19
  clean_types
  pointwise

/-- The reference's projections are those that the kernel's host part computes. -/
theorem projections_eq : res_main_v47 V0 = Cert.KernelIdeal.Launched.projections (F := Ideal) (feat V0) (mfccW V0) := by
  rfl

/-- The reference's scaled features are the features that the kernel's host part lays out, scaled. -/
theorem features_apply (r : Fin 20) (d : Fin 4096) : (res_main_v40 V0 : FVec Ideal S20x4096 .f32) (ix2 r d)
    = Cert.KernelIdeal.Launched.features (F := Ideal) (feat V0) (ix2 r d) * featW V0 (ix2 r d) := by
  unfold res_main_v40 Cert.KernelIdeal.Launched.features
  clean_types
  pointwise
  rfl

open Cert.KernelIdeal.Gen in
/-- The number whose sign is the result: the sum over the windows of three steps of the three products, each taken as many
    lanes back as steps remain, times the combination of the features, which is the kernel's own. -/
theorem total_apply (d : Fin 4096) : total V0 (ix1 d)
    = (∑ t : Fin 2046, product V0 (ix2 ⟨t.val, by omega⟩ (Cert.KernelIdeal.Count.back 2 d))
          * product V0 (ix2 ⟨t.val + 1, by omega⟩ (Cert.KernelIdeal.Count.back 1 d)) * product V0 (ix2 ⟨t.val + 2, by omega⟩ d))
        * (k0_pay106 (F := Ideal)
            (k0_pay103 (Cert.KernelIdeal.Launched.features (F := Ideal) (feat V0)) (featW V0) (featB V0))
            (k0_pay104 (Cert.KernelIdeal.Launched.projections (F := Ideal) (feat V0) (mfccW V0)) (mfccB V0))
            (k0_pay105 (Cert.KernelIdeal.Launched.features (F := Ideal) (feat V0)) (featW V0) (featB V0))) (ix2 0 d) := by
  unfold total res_main_v129 res_main_v21 res_main_v24 res_main_v27 res_main_v44 res_main_v51
  rw [projections_eq]
  clean_types
  pointwise [k0_pay106, k0_pay103, k0_pay104, k0_pay105]
  refine congrArg₂ (· * ·) (Finset.sum_congr rfl fun t _ => ?_) ?_
  · refine congrArg₂ (· * ·) (congrArg₂ (· * ·) ?_ ?_) ?_
    · split
      · exact congrArg (fun e => product V0 (ix2 _ e)) (Fin.ext (by simp [Cert.KernelIdeal.Count.back]; omega))
      · exact congrArg (fun e => product V0 (ix2 _ e)) (Fin.ext (by simp [Cert.KernelIdeal.Count.back]; omega))
    · split
      · exact congrArg₂ (fun r e => product V0 (ix2 r e)) (Fin.ext (Nat.add_comm _ _))
          (Fin.ext (by simp [Cert.KernelIdeal.Count.back]; omega))
      · exact congrArg₂ (fun r e => product V0 (ix2 r e)) (Fin.ext (Nat.add_comm _ _))
          (Fin.ext (by simp [Cert.KernelIdeal.Count.back]; omega))
    · exact congrArg (fun e => product V0 (ix2 e d)) (Fin.ext (Nat.add_comm _ _))
  · simp only [features_apply]

end Cert.ReferenceIdeal.Meaning

end
-- ==== Proof.Signs.lean ====
module

public import Idealize.ShloMosaic.PureOps
public import Idealize.ShloMosaic.PureOps.Ideal
public import Mathlib.Tactic.Linarith
public import Mathlib.Data.BitVec
public import Mathlib.Algebra.BigOperators.Fin

@[expose] public section

noncomputable section

open Idealize.ShloMosaic

namespace Cert.Signs

/-- The number a sign stands for: -1 for a negative sign, 1 otherwise. -/
def sgn (b : Bool) : ℝ := if b then -1 else 1

/-- Four keys, each times a table entry of a sign, make the product of the keys with the sign that is odd when an odd
    number of the entries' own signs are set: a sign common to all four goes away. -/
theorem bind (b b₀ b₁ b₂ b₃ : Bool) (k₀ k₁ k₂ k₃ : ℝ) :
    k₀ * sgn (b ^^ b₀) * (k₁ * sgn (b ^^ b₁)) * (k₂ * sgn (b ^^ b₂)) * (k₃ * sgn (b ^^ b₃))
      = k₀ * k₁ * k₂ * k₃ * sgn (((b₀ ^^ b₁) ^^ b₂) ^^ b₃) := by
  cases b <;> cases b₀ <;> cases b₁ <;> cases b₂ <;> cases b₃ <;> simp [sgn]

/-- Three signed numbers make the product of the numbers with the exclusive or of the signs. -/
theorem window (b₀ b₁ b₂ : Bool) (k₀ k₁ k₂ : ℝ) :
    k₀ * sgn b₀ * (k₁ * sgn b₁) * (k₂ * sgn b₂) = k₂ * k₁ * k₀ * sgn ((b₀ ^^ b₁) ^^ b₂) := by
  cases b₀ <;> cases b₁ <;> cases b₂ <;> simp [sgn] <;> ring

/-- Of the first `n` rows those below `th` count 1 and the others -1. -/
theorem sum_below (th n : ℕ) : ∑ i ∈ Finset.range n, sgn (!decide (i < th)) = 2 * (min n th : ℕ) - (n : ℝ) := by
  induction n with
  | zero => simp
  | succ n ih =>
    rw [Finset.sum_range_succ, ih]
    by_cases h : n < th
    · rw [show min n th = n by omega, show min (n + 1) th = n + 1 by omega]
      simp [sgn, h]
      ring
    · rw [show min n th = th by omega, show min (n + 1) th = th by omega]
      simp [sgn, h]
      ring

/-- A sum of real numbers is the same sum taken of them as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Threshold

variable {x : Fin 1024 → EReal}

/-- A column of the level table is a threshold: entries of 1 and -1 that do not come back to the first entry's value
    are of one sign below some row from 1 to 1024, and of the other from there on. -/
theorem threshold (h₁ : ∀ i, x i = 1 ∨ x i = -1)
    (h₂ : ∀ (i : ℕ) (h : i + 1 < 1024), x ⟨i + 1, h⟩ = x ⟨i, by omega⟩ ∨ x ⟨i + 1, h⟩ ≠ x 0) :
    ∃ (b : Bool) (th : ℕ), 1 ≤ th ∧ th ≤ 1024 ∧ ∀ i : Fin 1024, x i = (sgn (b ^^ decide (i.val < th)) : EReal) := by
  have hne : (1 : EReal) ≠ -1 := by
    have : ((1 : ℝ) : EReal) ≠ ((-1 : ℝ) : EReal) := by
      rw [Ne, EReal.coe_eq_coe_iff]; norm_num
    simpa using this
  -- the first row that has left the first entry's value, or 1024
  obtain ⟨th, h1, h1024, hlt, hge⟩ : ∃ th, 1 ≤ th ∧ th ≤ 1024 ∧ (∀ i : Fin 1024, i.val < th → x i = x 0)
      ∧ ∀ i : Fin 1024, th ≤ i.val → x i ≠ x 0 := by
    classical
    by_cases hex : ∃ i : ℕ, ∃ h : i < 1024, x ⟨i, h⟩ ≠ x 0
    · obtain ⟨hf, hx⟩ := Nat.find_spec hex
      refine ⟨Nat.find hex, ?_, hf.le, ?_, ?_⟩
      · rcases Nat.eq_zero_or_pos (Nat.find hex) with h0 | h0
        · exfalso
          apply hx
          congr 1
          exact Fin.ext h0
        · exact h0
      · intro i hi
        by_contra hn
        exact Nat.find_min hex hi ⟨i.2, hn⟩
      · have key : ∀ k (h : Nat.find hex + k < 1024), x ⟨Nat.find hex + k, h⟩ ≠ x 0 := by
          intro k
          induction k with
          | zero => exact fun _ => hx
          | succ k ih =>
            intro h
            rcases h₂ (Nat.find hex + k) h with e | e
            · exact fun hh => ih (by omega) (e.symm.trans hh)
            · exact e
        intro i hi
        have h := key (i.val - Nat.find hex) (by omega)
        have e : (⟨Nat.find hex + (i.val - Nat.find hex), by omega⟩ : Fin 1024) = i := Fin.ext (by simp; omega)
        rwa [e] at h
    · push Not at hex
      exact ⟨1024, by norm_num, le_rfl, fun i _ => hex i.val i.2, fun i hi => absurd i.2 (by omega)⟩
  rcases h₁ 0 with h0 | h0
  · refine ⟨true, th, h1, h1024, fun i => ?_⟩
    by_cases hi : i.val < th
    · rw [hlt i hi, h0]; simp [sgn, hi]
    · have := hge i (by omega)
      rcases h₁ i with e | e
      · exact absurd (e.trans h0.symm) this
      · rw [e]; simp [sgn, hi]
  · refine ⟨false, th, h1, h1024, fun i => ?_⟩
    by_cases hi : i.val < th
    · rw [hlt i hi, h0]; simp [sgn, hi]
    · have := hge i (by omega)
      rcases h₁ i with e | e
      · rw [e]; simp [sgn, hi]
      · exact absurd (e.trans h0.symm) this

/-- The kernel's formula for the threshold, from the first entry and the column's sum, gives the threshold. -/
theorem threshold_formula {b : Bool} {th : ℕ} (h1 : 1 ≤ th) (h1024 : th ≤ 1024)
    (hx : ∀ i : Fin 1024, x i = (sgn (b ^^ decide (i.val < th)) : EReal)) :
    (1024 : EReal) - (1024 - x 0 * ∑ i, x i) * ((1 / 2 : ℝ) : EReal) = (th : EReal) := by
  have hs : ∀ c : Bool, sgn (b ^^ c) = sgn (!b) * sgn (!c) := by
    intro c; cases b <;> cases c <;> simp [sgn]
  have hsum : ∑ i : Fin 1024, sgn (b ^^ decide (i.val < th)) = sgn (!b) * (2 * th - 1024) := by
    simp only [hs, ← Finset.mul_sum]
    rw [Fin.sum_univ_eq_sum_range (fun i => sgn (!decide (i < th))) 1024, sum_below, min_eq_right h1024]
    norm_num
  have h0 : x 0 = (sgn (!b) : EReal) := by
    rw [hx 0]
    have : (0 : ℕ) < th := h1
    simp [this]
  have hcast : (1024 : EReal) = ((1024 : ℝ) : EReal) := rfl
  have hth : (th : EReal) = ((th : ℝ) : EReal) := by simp
  rw [h0, Finset.sum_congr rfl (fun i _ => hx i), ← coe_sum, hsum, hcast, hth, ← EReal.coe_mul, ← EReal.coe_sub,
    ← EReal.coe_mul, ← EReal.coe_sub, EReal.coe_eq_coe_iff]
  have hb : sgn (!b) * (sgn (!b) * (2 * (th : ℝ) - 1024)) = 2 * th - 1024 := by
    cases b <;> simp [sgn]
  rw [hb]
  ring

end Threshold

/-- The whole sum of signed copies of a number is the number times the count of the windows less twice the odd ones. -/
theorem sum_sgn (p : ℕ → Bool) (n : ℕ) :
    ∑ t ∈ Finset.range n, sgn (p t) = n + 2 * ((-(∑ t ∈ Finset.range n, if p t then (1 : ℤ) else 0) : ℤ) : ℝ) := by
  induction n with
  | zero => simp
  | succ n ih =>
    rw [Finset.sum_range_succ, ih, Finset.sum_range_succ]
    cases p n <;> simp [sgn] <;> ring

/-- A count over `n` windows lies between 0 and `n`. -/
theorem count_bounds (p : ℕ → Bool) (n : ℕ) : 0 ≤ (∑ t ∈ Finset.range n, if p t then (1 : ℤ) else 0)
    ∧ (∑ t ∈ Finset.range n, if p t then (1 : ℤ) else 0) ≤ n := by
  induction n with
  | zero => simp
  | succ n ih =>
    rw [Finset.sum_range_succ]
    split <;> push_cast <;> omega

end Cert.Signs

end
-- ==== Proof.Pre.lean ====
module

public import proofs.«01_k».proof.Pre_thermometer_table_finite_keys
public import Idealize.ShloMosaic.Lib.Pointwise
public import Idealize.ShloMosaic.PureOps.Ideal

@[expose] public section

set_option maxRecDepth 16384

noncomputable section

open Idealize.ShloMosaic

namespace Cert.Pre_thermometer_table_finite_keys

/-- An or of two decided conditions is set when one of them holds. -/
theorem ori_decided {p q : Prop} [Decidable p] [Decidable q]
    (h : IntOp.ori (BitVec.ofBool (decide p)) (BitVec.ofBool (decide q)) = 1#1) : p ∨ q := by
  by_cases hp : p
  · exact Or.inl hp
  · by_cases hq : q
    · exact Or.inr hq
    · exfalso
      revert h
      rw [decide_eq_false hp, decide_eq_false hq]
      decide

/-- The single-precision word of -1. -/
theorem minus_one : Ideal.ofBits .f32 0xBF800000#32 = -1 := by
  simp [Ideal.ofBits, Ideal.ieee]
  rw [← EReal.coe_mul]
  norm_num

/-- The shape relations the precondition takes. -/
theorem facts : Facts := ⟨by decide, by decide, by decide, by decide, by decide, by decide⟩

variable [Facts]
variable (a0 : FVec Ideal S2048x4 .f32) (a1 : FVec Ideal S620 .f32) (a2 : FVec Ideal S4x4096 .f32)
  (a3 : FVec Ideal S1024x4096 .f32) (a4 : FVec Ideal S20x4096 .f32) (a5 : FVec Ideal S20x4096 .f32)
  (a6 : FVec Ideal S6x4096x91 .f32) (a7 : FVec Ideal S6x4096 .f32)

/-- The precondition's first part at an entry of the table: it is 1 or -1. -/
theorem entry (h : (fn a0 a1 a2 a3 a4 a5 a6 a7).1 = fun _ => 1#1) (i : Fin 1024) (d : Fin 4096) :
    a3 (ix2 i d) = (1 : EReal) ∨ a3 (ix2 i d) = (-1 : EReal) := by
  have hp := congrFun h (ix2 i d)
  revert hp
  pointwise [fn]
  intro hp
  rw [minus_one] at hp
  exact ori_decided hp

/-- The precondition's second part at a row of the table: an entry is that of the row before, or is not the first. -/
theorem step (h : (fn a0 a1 a2 a3 a4 a5 a6 a7).2.1 = fun _ => 1#1) (i : ℕ) (hi : i + 1 < 1024) (d : Fin 4096) :
    a3 (ix2 ⟨i + 1, hi⟩ d) = (a3 (ix2 ⟨i, by omega⟩ d) : EReal) ∨ a3 (ix2 ⟨i + 1, hi⟩ d) ≠ (a3 (ix2 0 d) : EReal) := by
  have hp := congrFun h (ix2 ⟨i, by omega⟩ d)
  revert hp
  pointwise [fn]
  intro hp
  have e : (⟨1 + i, by omega⟩ : Fin 1024) = ⟨i + 1, hi⟩ := Fin.ext (Nat.add_comm 1 i)
  rw [e] at hp
  exact ori_decided hp

/-- The precondition's third part at a key: it is a real number. -/
theorem key (h : (fn a0 a1 a2 a3 a4 a5 a6 a7).2.2 = fun _ => 1#1) (c : Fin 4) (d : Fin 4096) :
    ∃ r : ℝ, a2 (ix2 c d) = (r : EReal) := by
  have hp := congrFun h (ix2 c d)
  revert hp
  pointwise [fn]
  intro hp
  have top : Ideal.ofBits .f32 0x7F800000#32 = ⊤ := by simp [Ideal.ofBits, Ideal.ieee]
  rw [top] at hp
  generalize (a2 (ix2 c d) : EReal) = k at hp ⊢
  induction k using EReal.rec with
  | bot => exact absurd hp (by simp [FloatOps.absf])
  | top => exact absurd hp (by simp [FloatOps.absf])
  | coe r => exact ⟨r, rfl⟩

end Cert.Pre_thermometer_table_finite_keys

end
-- ==== Proof.Equation.lean ====
module

public import proofs.«01_k».proof.Proof.Reference
public import proofs.«01_k».proof.Proof.Signs
public import proofs.«01_k».proof.Proof.Pre

@[expose] public section

set_option maxRecDepth 16384

noncomputable section

open Idealize.ShloMosaic

namespace Cert.Equation

open Cert.KernelIdeal Cert.KernelIdeal.Gen Cert.KernelIdeal.Count Cert.Signs

/-- The single-precision word of 1024. -/
theorem lit1024 : Ideal.ofBits .f32 0x44800000#32 = 1024 := by
  simp [Ideal.ofBits, Ideal.ieee]
  rw [← EReal.coe_mul]
  norm_num
  rfl

/-- The single-precision word of 1023. -/
theorem lit1023 : Ideal.ofBits .f32 0x447FC000#32 = 1023 := by
  simp [Ideal.ofBits, Ideal.ieee]
  rw [← EReal.coe_mul]
  norm_num
  rfl

/-- The single-precision word of 2046. -/
theorem lit2046 : Ideal.ofBits .f32 0x44FFC000#32 = 2046 := by
  simp [Ideal.ofBits, Ideal.ieee]
  rw [← EReal.coe_mul]
  norm_num
  rfl

/-- The single-precision word of 2. -/
theorem lit2 : Ideal.ofBits .f32 0x40000000#32 = 2 := by
  simp [Ideal.ofBits, Ideal.ieee]
  rw [← EReal.coe_mul]
  norm_num
  rfl

/-- The single-precision word of one half. -/
theorem lit_half : Ideal.ofBits .f32 0x3F000000#32 = ((1 / 2 : ℝ) : EReal) := by
  simp [Ideal.ofBits, Ideal.ieee]
  rw [← EReal.coe_mul, EReal.coe_eq_coe_iff]
  norm_num

/-- The number before the last level, as the kernel writes it: 1024 less 1. -/
theorem sub1023 : (1024 : EReal) - 1 = 1023 := by
  have h : ((1024 : ℝ) : EReal) - ((1 : ℝ) : EReal) = ((1023 : ℝ) : EReal) := by
    rw [← EReal.coe_sub]
    norm_num
  exact h

/-- A word that sums `n` masks is minus the count of the set ones. -/
theorem sum_mark (p : ℕ → Bool) (n : ℕ) : ∑ t ∈ Finset.range n, mark (p t)
    = BitVec.ofInt 32 (-(∑ t ∈ Finset.range n, if p t then (1 : ℤ) else 0)) := by
  induction n with
  | zero => simp
  | succ n ih =>
    rw [Finset.sum_range_succ, ih, Finset.sum_range_succ, neg_add, BitVec.ofInt_add]
    congr 1
    cases p n
    · rfl
    · rfl

/-- The kernel's closed form: the number of windows, plus twice minus the count of the odd ones, times a real number, is
    the sum of the number with each window's sign. -/
theorem closed_form (p : ℕ → Bool) (K : ℝ) :
    ((2046 : EReal) + 2 * (((∑ t ∈ Finset.range 2046, mark (p t)).toInt : ℝ) : EReal)) * (K : EReal)
      = ∑ t : Fin 2046, ((K * sgn (p t.val) : ℝ) : EReal) := by
  have hb := count_bounds p 2046
  rw [sum_mark, Level.toInt_held _ (by omega) (by omega), ← coe_sum, ← Finset.mul_sum,
    Fin.sum_univ_eq_sum_range (fun t => sgn (p t)) 2046, sum_sgn]
  have h : ∀ z : ℝ, ((2046 : EReal) + 2 * (z : EReal)) * (K : EReal) = ((K * (((2046 : ℕ) : ℝ) + 2 * z) : ℝ) : EReal) := by
    intro z
    rw [mul_comm, EReal.coe_mul, EReal.coe_add, EReal.coe_mul]
    norm_num
    rfl
  exact h _

/-- Less than zero, of a difference of two natural numbers as extended reals, is less. -/
theorem sub_neg (n th : ℕ) : ((n : EReal) - (th : EReal) < 0) ↔ n < th := by
  have hn : (n : EReal) = ((n : ℝ) : EReal) := by simp
  have ht : (th : EReal) = ((th : ℝ) : EReal) := by simp
  rw [hn, ht, ← EReal.coe_sub, ← EReal.coe_zero, EReal.coe_lt_coe_iff, sub_lt_zero, Nat.cast_lt]

section Column

variable (V0 : Valuation Cert.ReferenceIdeal.τ Cert.ReferenceIdeal.sig (Elt Ideal))

open Cert.ReferenceIdeal.Meaning

/-- A signal's level: one natural number that the kernel's clipped float and the reference's clipped word both stand for. -/
theorem levels : ∃ lvl : Fin 2048 → Fin 4 → ℕ, ∀ t c, lvl t c ≤ 1023
    ∧ k0_pay4 (F := Ideal) (signals V0) (ix2 t c) = (lvl t c : EReal) ∧ word V0 (ix2 t c) = BitVec.ofNat 32 (lvl t c) := by
  have h : ∀ t c, ∃ n : ℕ, n ≤ 1023 ∧ k0_pay4 (F := Ideal) (signals V0) (ix2 t c) = (n : EReal)
      ∧ word V0 (ix2 t c) = BitVec.ofNat 32 n := by
    intro t c
    obtain ⟨n, hn, hk, hw⟩ := Level.level Ideal.roundHalfEven (signals V0 (ix2 t c) * 1023)
    refine ⟨n, hn, ?_, ?_⟩
    · rw [← hk]
      pointwise [k0_pay4]
      rw [lit1024, sub1023]
    · rw [word_apply, lit1023, hw]
  choose lvl hl using h
  exact ⟨lvl, hl⟩

/-- The kernel's threshold of a column, read off the table's first entry and the column's sum. -/
theorem threshold_apply (d : Fin 4096) : k0_pay2 (F := Ideal) (table V0) (ix2 0 d)
    = 1024 - (1024 - table V0 (ix2 0 d) * ∑ i : Fin 1024, table V0 (ix2 i d)) * ((1 / 2 : ℝ) : EReal) := by
  pointwise [k0_pay2]
  rw [lit1024, lit_half]

/-- The kernel's product of keys at a lane: the four keys' product there, one lane back and two lanes back. -/
theorem keys_apply (d : Fin 4096) {k : Fin 4 → Fin 4096 → ℝ} (hk : ∀ c e, keys V0 (ix2 c e) = (k c e : EReal)) :
    k0_pay3 (F := Ideal) (keys V0) (ix2 0 d)
      = ((k 0 d * k 1 d * k 2 d * k 3 d * (k 0 (back 1 d) * k 1 (back 1 d) * k 2 (back 1 d) * k 3 (back 1 d))
          * (k 0 (back 2 d) * k 1 (back 2 d) * k 2 (back 2 d) * k 3 (back 2 d)) : ℝ) : EReal) := by
  simp only [EReal.coe_mul, ← hk]
  pointwise [k0_pay3]
  rfl

variable (hentry : ∀ (i : Fin 1024) (d : Fin 4096), table V0 (ix2 i d) = (1 : EReal) ∨ table V0 (ix2 i d) = (-1 : EReal))
  (hstep : ∀ (i : ℕ) (hi : i + 1 < 1024) (d : Fin 4096), table V0 (ix2 ⟨i + 1, hi⟩ d) = (table V0 (ix2 ⟨i, Nat.lt_of_succ_lt hi⟩ d) : EReal)
    ∨ table V0 (ix2 ⟨i + 1, hi⟩ d) ≠ (table V0 (ix2 0 d) : EReal))
  (hkey : ∀ (c : Fin 4) (d : Fin 4096), ∃ r : ℝ, keys V0 (ix2 c d) = (r : EReal))

include hentry hstep hkey

/-- The two bundles at a lane: the kernel's closed form is the reference's sum over the windows. -/
theorem bundle (d : Fin 4096) : sample (F := Ideal) (signals V0) (keys V0) (table V0) (ix2 0 d)
    = ∑ t : Fin 2046, product V0 (ix2 ⟨t.val, by omega⟩ (back 2 d))
        * product V0 (ix2 ⟨t.val + 1, by omega⟩ (back 1 d)) * product V0 (ix2 ⟨t.val + 2, by omega⟩ d) := by
  obtain ⟨lvl, hlvl⟩ := levels V0
  choose b th h1 h1024 hth using fun e => threshold (x := fun i => table V0 (ix2 i e)) (fun i => hentry i e)
    (fun i hi => hstep i hi e)
  choose k hk using hkey
  -- the kernel's sign of a step and lane is the parity of the channels below the lane's threshold
  have hneg : ∀ (t : ℕ) (ht : t < 2048) (e : Fin 4096), neg (k0_pay2 (F := Ideal) (table V0)) (k0_pay4 (F := Ideal) (signals V0)) t e
      = (((decide (lvl ⟨t, ht⟩ 0 < th e) ^^ decide (lvl ⟨t, ht⟩ 1 < th e)) ^^ decide (lvl ⟨t, ht⟩ 2 < th e))
          ^^ decide (lvl ⟨t, ht⟩ 3 < th e)) := by
    intro t ht e
    have hT : k0_pay2 (F := Ideal) (table V0) (ix2 0 e) = (th e : EReal) :=
      (threshold_apply V0 e).trans (threshold_formula (x := fun i => table V0 (ix2 i e)) (h1 e) (h1024 e) (hth e))
    have hc : ∀ c, (k0_pay4 (F := Ideal) (signals V0) (ix2 ⟨t, ht⟩ c) - k0_pay2 (F := Ideal) (table V0) (ix2 0 e) < (0 : EReal))
        ↔ lvl ⟨t, ht⟩ c < th e := by
      intro c
      rw [hT, (hlvl _ c).2.1]
      exact sub_neg _ _
    unfold neg
    rw [dif_pos ht]
    simp only [hc]
  -- the reference's product of a step and lane is the product of the lane's keys with that sign
  have hprod : ∀ (t : ℕ) (ht : t < 2048) (e : Fin 4096), product V0 (ix2 ⟨t, ht⟩ e)
      = ((k 0 e * k 1 e * k 2 e * k 3 e
          * sgn (neg (k0_pay2 (F := Ideal) (table V0)) (k0_pay4 (F := Ideal) (signals V0)) t e) : ℝ) : EReal) := by
    intro t ht e
    have hb : ∀ c, bound V0 (ix3 ⟨t, ht⟩ c e) = ((k c e * sgn (b e ^^ decide (lvl ⟨t, ht⟩ c < th e)) : ℝ) : EReal) := by
      intro c
      rw [bound_apply V0 _ c e (hlvl _ c).1 (hlvl _ c).2.2, hk, EReal.coe_mul]
      exact congrArg _ (hth e ⟨lvl ⟨t, ht⟩ c, _⟩)
    rw [product_apply, hb, hb, hb, hb, ← EReal.coe_mul, ← EReal.coe_mul, ← EReal.coe_mul, bind, hneg t ht]
  rw [show sample (F := Ideal) (signals V0) (keys V0) (table V0) (ix2 0 d)
      = ((2046 : EReal) + 2 * (((tally (k0_pay2 (F := Ideal) (table V0)) (k0_pay4 (F := Ideal) (signals V0)) (ix2 0 d)).toInt : ℝ) : EReal))
        * k0_pay3 (F := Ideal) (keys V0) (ix2 0 d) by
    pointwise [sample]
    rw [lit2046, lit2]
    rfl]
  rw [tally_apply, keys_apply V0 d hk, closed_form]
  refine Finset.sum_congr rfl fun t _ => ?_
  rw [hprod, hprod, hprod, ← EReal.coe_mul, ← EReal.coe_mul, window]
  rfl

/-- The kernel's result at a lane is the reference's: 1 where the bundle times the features' combination is positive, and
    -1 elsewhere. -/
theorem result (d : Fin 4096) : Launched.launched (F := Ideal) (signals V0) (feat V0) (keys V0) (table V0) (featW V0) (featB V0)
    (mfccW V0) (mfccB V0) (ix2 0 d) = (if (0 : EReal) < total V0 (ix1 d) then (1 : EReal) else -1) := by
  unfold Launched.launched
  rw [out_eq, total_apply, ← bundle V0 hentry hstep hkey d]
  pointwise [k0_pay1]
  rw [Cert.Pre_thermometer_table_finite_keys.minus_one]

end Column

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its arguments as they were and every counter at zero. -/
theorem frame_reference (m : (ℓ : Loc ReferenceIdeal.nD ReferenceIdeal.τ ReferenceIdeal.sig) → Buf (Elt Ideal) ℓ)
    (ρ : Dev ReferenceIdeal.nD → PrngReg) : θ_run (ReferenceIdeal.defs (F := Ideal))
      (onTc (τ := ReferenceIdeal.τ) (ReferenceIdeal.main (F := Ideal))) ⟨m, fun _ => 0, ρ⟩ (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4)
        ∧ r.2.mem ((c.tc : Thread ReferenceIdeal.nD ReferenceIdeal.τ).loc ReferenceIdeal.main_arg5) = m ((c.tc : Thread ReferenceIdeal.nD ReferenceIdeal.τ).loc ReferenceIdeal.main_arg5)
        ∧ r.2.mem ((c.tc : Thread ReferenceIdeal.nD ReferenceIdeal.τ).loc ReferenceIdeal.main_arg6) = m ((c.tc : Thread ReferenceIdeal.nD ReferenceIdeal.τ).loc ReferenceIdeal.main_arg6)
        ∧ r.2.mem ((c.tc : Thread ReferenceIdeal.nD ReferenceIdeal.τ).loc ReferenceIdeal.main_arg7) = m ((c.tc : Thread ReferenceIdeal.nD ReferenceIdeal.τ).loc ReferenceIdeal.main_arg7))
        ∧ r.2.sem = fun _ => 0) :=
  (θ_run ReferenceIdeal.defs _ _).mono (fun r h => ⟨fun c => (h c).2, sem_eq_zero_of_no_sems (by decide) r.2⟩)
    (ReferenceIdeal.Value.run (F := Ideal) m ρ)

/-- Under the precondition the kernel and the reference end with the same result and their arguments unchanged. -/
theorem results_equal : algebraic_KernelIdeal_ReferenceIdeal_pre_thermometer_table_finite_keys
    (hKernelIdeal := KernelIdeal.Gen.facts) (hReferenceIdeal := ReferenceIdeal.Gen.facts)
    (hPre_thermometer_table_finite_keys := Pre_thermometer_table_finite_keys.facts) := by
  haveI := Pre_thermometer_table_finite_keys.facts
  intro m ρ m' ρ' hpre hagree
  refine ⟨_, (θ_run KernelIdeal.defs _ _).mono (fun r h c => ⟨h.1 c, h.2 c⟩)
    (θ_run_and (KernelIdeal.Launched.run (F := Ideal) m ρ) (KernelIdeal.Gen.unchanged (F := Ideal) m ρ)), ?_⟩
  refine (θ_run ReferenceIdeal.defs _ _).mono (fun _ h c => ⟨(h c).1.trans ?_, (h c).2⟩)
    (ReferenceIdeal.Value.run (F := Ideal) m' ρ')
  obtain ⟨h0, h1, h2, h3, h4, h5, h6, h7⟩ := hagree c
  obtain ⟨p1, p2, p3⟩ := hpre c
  rw [← h0, ← h1, ← h2, ← h3, ← h4, ← h5, ← h6, ← h7] at p1 p2 p3 ⊢
  funext i
  obtain ⟨d, rfl⟩ : ∃ d : Fin 4096, i = ix1 d := ⟨i 0, eq_ix1 (n0 := 4096) i⟩
  refine Eq.trans ?_ (Eq.symm (Eq.trans ?_ (Equation.result (StableHlo.launchContents m' c)
    (fun r e => Pre_thermometer_table_finite_keys.entry _ _ _ _ _ _ _ _ p1 r e)
    (fun r hr e => Pre_thermometer_table_finite_keys.step _ _ _ _ _ _ _ _ p2 r hr e)
    (fun k e => Pre_thermometer_table_finite_keys.key _ _ _ _ _ _ _ _ p3 k e) d)))
  · pointwise
    rw [Pre_thermometer_table_finite_keys.minus_one]
  · pointwise

/-- Every claim of the certificate. -/
theorem claim : Cert.Claim := ⟨Kernel.Gen.facts, KernelIdeal.Gen.facts, ReferenceIdeal.Gen.facts,
  Pre_thermometer_table_finite_keys.facts,
  fun m ρ _ => Kernel.Gen.frame m ρ, fun m ρ _ => KernelIdeal.Gen.frame m ρ, fun m ρ _ => KernelIdeal.Gen.frame m ρ,
  fun m ρ _ => frame_reference m ρ, fun m ρ _ => frame_reference m ρ,
  ⟨IdealRules.sign_bit.maskStatement _ .f32, IdealRules.sign_bit.maskStatement _ .f32⟩, results_equal⟩

end Cert.Proof

end
